-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_vertices [hPre_finite_vertices : Cert.Pre_finite_vertices.Facts] (m : (ℓ : Loc Cert.KernelIdeal.nD Cert.KernelIdeal.τ Cert.KernelIdeal.sig) → Buf (Elt Ideal) ℓ) : Prop :=
  ∀ c : Dev Cert.KernelIdeal.nD,
    (Cert.Pre_finite_vertices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_vertices [hPre_finite_vertices : Cert.Pre_finite_vertices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_vertices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_vertices [hKernelIdeal : Cert.KernelIdeal.Facts] [hPre_finite_vertices : Cert.Pre_finite_vertices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_vertices m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_vertices [hReferenceIdeal : Cert.ReferenceIdeal.Facts] [hPre_finite_vertices : Cert.Pre_finite_vertices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_vertices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_vertices [hKernelIdeal : Cert.KernelIdeal.Facts] [hReferenceIdeal : Cert.ReferenceIdeal.Facts] [hPre_finite_vertices : Cert.Pre_finite_vertices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_vertices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_vertices : Cert.Pre_finite_vertices.Facts),
    quiescent_Kernel (hKernel := hKernel)
    ∧ quiescent_KernelIdeal (hKernelIdeal := hKernelIdeal)
    ∧ quiescent_KernelIdeal_pre_finite_vertices (hKernelIdeal := hKernelIdeal) (hPre_finite_vertices := hPre_finite_vertices)
    ∧ quiescent_ReferenceIdeal (hReferenceIdeal := hReferenceIdeal)
    ∧ quiescent_ReferenceIdeal_pre_finite_vertices (hReferenceIdeal := hReferenceIdeal) (hPre_finite_vertices := hPre_finite_vertices)
    ∧ preserves_Kernel_KernelIdeal
    ∧ algebraic_KernelIdeal_ReferenceIdeal_pre_finite_vertices (hKernelIdeal := hKernelIdeal) (hReferenceIdeal := hReferenceIdeal) (hPre_finite_vertices := hPre_finite_vertices)
-- ==== Pre_finite_vertices.lean ====
abbrev S100000x3 : Shape := ⟨2, ![100000, 3]⟩
abbrev S600000x4 : Shape := ⟨2, ![600000, 4]⟩
abbrev S33x128 : Shape := ⟨2, ![33, 128]⟩
abbrev S128x128 : Shape := ⟨2, ![128, 128]⟩
abbrev S128x4 : Shape := ⟨2, ![128, 4]⟩
abbrev S_ : Shape := ⟨0, ![]⟩

class Facts : Prop where
  bcast_S_S100000x3 : S_.BroadcastsInDim S100000x3 (![] : Fin 0 → Fin S100000x3.rank)

variable [Facts]

def fn {F : FTy → Type} [FloatOps F] (main_arg0 : FVec F S100000x3 .f32) (main_arg1 : IVec S600000x4 32) (main_arg2 : FVec F S33x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x4 .f32) : IVec S100000x3 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  main_v2
-- ==== Kernel.lean ====
abbrev S100000x3 : Shape := ⟨2, ![100000, 3]⟩
abbrev S600000x4 : Shape := ⟨2, ![600000, 4]⟩
abbrev S33x128 : Shape := ⟨2, ![33, 128]⟩
abbrev S128x128 : Shape := ⟨2, ![128, 128]⟩
abbrev S128x4 : Shape := ⟨2, ![128, 4]⟩
abbrev S3x100000 : Shape := ⟨2, ![3, 100000]⟩
abbrev S4x100000 : Shape := ⟨2, ![4, 100000]⟩
abbrev S3x8192 : Shape := ⟨2, ![3, 8192]⟩
abbrev S4x8192 : Shape := ⟨2, ![4, 8192]⟩
abbrev S33x8192 : Shape := ⟨2, ![33, 8192]⟩
abbrev S128x8192 : Shape := ⟨2, ![128, 8192]⟩
abbrev S1x8192 : Shape := ⟨2, ![1, 8192]⟩
abbrev S100000x4 : Shape := ⟨2, ![100000, 4]⟩

abbrev nBuf : Space → Nat
  | .hbm => 14
  | .vmem => 13
  | .smem => 0
  | _ => 0

abbrev bufTy : (tb : Table) → Fin (tcTables nBuf tb) → BufTy
  | .hbm, ⟨0, _⟩ => ⟨S100000x3, .f32⟩
  | .hbm, ⟨1, _⟩ => ⟨S600000x4, .i32⟩
  | .hbm, ⟨2, _⟩ => ⟨S33x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x4, .f32⟩
  | .hbm, ⟨11, _⟩ => ⟨S3x100000, .f32⟩
  | .hbm, ⟨12, _⟩ => ⟨S4x100000, .f32⟩
  | .hbm, ⟨13, _⟩ => ⟨S100000x4, .f32⟩
  | .local _ .vmem, ⟨0, _⟩ => ⟨S3x8192, .f32⟩
  | .local _ .vmem, ⟨1, _⟩ => ⟨S3x8192, .f32⟩
  | .local _ .vmem, ⟨2, _⟩ => ⟨S33x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x4, .f32⟩
  | .local _ .vmem, ⟨11, _⟩ => ⟨S4x8192, .f32⟩
  | .local _ .vmem, ⟨12, _⟩ => ⟨S4x8192, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S100000x3 : Shape := ⟨2, ![100000, 3]⟩
abbrev S600000x4 : Shape := ⟨2, ![600000, 4]⟩
abbrev S33x128 : Shape := ⟨2, ![33, 128]⟩
abbrev S128x128 : Shape := ⟨2, ![128, 128]⟩
abbrev S128x4 : Shape := ⟨2, ![128, 4]⟩
abbrev S_ : Shape := ⟨0, ![]⟩
abbrev S4 : Shape := ⟨1, ![4]⟩
abbrev S1 : Shape := ⟨1, ![1]⟩
abbrev S5 : Shape := ⟨1, ![5]⟩
abbrev S100000x33 : Shape := ⟨2, ![100000, 33]⟩
abbrev S100000x128 : Shape := ⟨2, ![100000, 128]⟩
abbrev S100000x4 : Shape := ⟨2, ![100000, 4]⟩
abbrev S100000x1 : Shape := ⟨2, ![100000, 1]⟩
abbrev S100000 : Shape := ⟨1, ![100000]⟩

abbrev nBuf : Space → Nat
  | .hbm => 121
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S600000x4, .i32⟩
  | .hbm, ⟨2, _⟩ => ⟨S33x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S1, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S1, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S1, .f32⟩
  | .hbm, ⟨33, _⟩ => ⟨S5, .f32⟩
  | .hbm, ⟨34, _⟩ => ⟨S_, .f32⟩
  | .hbm, ⟨35, _⟩ => ⟨S5, .f32⟩
  | .hbm, ⟨36, _⟩ => ⟨S5, .f32⟩
  | .hbm, ⟨37, _⟩ => ⟨S1, .f32⟩
  | .hbm, ⟨38, _⟩ => ⟨S_, .f32⟩
  | .hbm, ⟨39, _⟩ => ⟨S100000x3, .f32⟩
  | .hbm, ⟨40, _⟩ => ⟨S100000x3, .f32⟩
  | .hbm, ⟨41, _⟩ => ⟨S100000x3, .f32⟩
  | .hbm, ⟨42, _⟩ => ⟨S100000x3, .f32⟩
  | .hbm, ⟨43, _⟩ => ⟨S100000x3, .f32⟩
  | .hbm, ⟨44, _⟩ => ⟨S100000x3, .f32⟩
  | .hbm, ⟨45, _⟩ => ⟨S1, .f32⟩
  | .hbm, ⟨46, _⟩ => ⟨S_, .f32⟩
  | .hbm, ⟨47, _⟩ => ⟨S100000x3, .f32⟩
  | .hbm, ⟨48, _⟩ => ⟨S100000x3, .f32⟩
  | .hbm, ⟨49, _⟩ => ⟨S100000x3, .f32⟩
  | .hbm, ⟨50, _⟩ => ⟨S100000x3, .f32⟩
  | .hbm, ⟨51, _⟩ => ⟨S100000x3, .f32⟩
  | .hbm, ⟨52, _⟩ => ⟨S100000x3, .f32⟩
  | .hbm, ⟨53, _⟩ => ⟨S1, .f32⟩
  | .hbm, ⟨54, _⟩ => ⟨S_, .f32⟩
  | .hbm, ⟨55, _⟩ => ⟨S100000x3, .f32⟩
  | .hbm, ⟨56, _⟩ => ⟨S100000x3, .f32⟩
  | .hbm, ⟨57, _⟩ => ⟨S100000x3, .f32⟩
  | .hbm, ⟨58, _⟩ => ⟨S100000x3, .f32⟩
  | .hbm, ⟨59, _⟩ => ⟨S100000x3, .f32⟩
  | .hbm, ⟨60, _⟩ => ⟨S100000x3, .f32⟩
  | .hbm, ⟨61, _⟩ => ⟨S1, .f32⟩
  | .hbm, ⟨62, _⟩ => ⟨S_, .f32⟩
  | .hbm, ⟨63, _⟩ => ⟨S100000x3, .f32⟩
  | .hbm, ⟨64, _⟩ => ⟨S100000x3, .f32⟩
  | .hbm, ⟨65, _⟩ => ⟨S100000x3, .f32⟩
  | .hbm, ⟨66, _⟩ => ⟨S100000x3, .f32⟩
  | .hbm, ⟨67, _⟩ => ⟨S100000x3, .f32⟩
  | .hbm, ⟨68, _⟩ => ⟨S100000x3, .f32⟩
  | .hbm, ⟨69, _⟩ => ⟨S1, .f32⟩
  | .hbm, ⟨70, _⟩ => ⟨S_, .f32⟩
  | .hbm, ⟨71, _⟩ => ⟨S100000x3, .f32⟩
  | .hbm, ⟨72, _⟩ => ⟨S100000x3, .f32⟩
  | .hbm, ⟨73, _⟩ => ⟨S100000x3, .f32⟩
  | .hbm, ⟨74, _⟩ => ⟨S100000x3, .f32⟩
  | .hbm, ⟨75, _⟩ => ⟨S100000x3, .f32⟩
  | .hbm, ⟨76, _⟩ => ⟨S100000x3, .f32⟩
  | .hbm, ⟨77, _⟩ => ⟨S100000x33, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S_, .f32⟩
  | .hbm, ⟨108, _⟩ => ⟨S100000x128, .f32⟩
  | .hbm, ⟨109, _⟩ => ⟨S100000x128, .f32⟩
  | .hbm, ⟨110, _⟩ => ⟨S100000x4, .f32⟩
  | .hbm, ⟨111, _⟩ => ⟨S100000x1, .f32⟩
  | .hbm, ⟨112, _⟩ => ⟨S100000, .f32⟩
  | .hbm, ⟨113, _⟩ => ⟨S100000x3, .f32⟩
  | .hbm, ⟨114, _⟩ => ⟨S100000x3, .f32⟩
  | .hbm, ⟨115, _⟩ => ⟨S_, .f32⟩
  | .hbm, ⟨116, _⟩ => ⟨S100000x3, .f32⟩
  | .hbm, ⟨117, _⟩ => ⟨S100000x3, .f32⟩
  | .hbm, ⟨118, _⟩ => ⟨S100000x3, .f32⟩
  | .hbm, ⟨119, _⟩ => ⟨S100000x1, .f32⟩
  | .hbm, ⟨120, _⟩ => ⟨S100000x4, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v0 : Ref sig .tc := ⟨.hbm, 33, rfl⟩
abbrev main_cst_1 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call1_cst : Ref sig .tc := ⟨.hbm, 79, rfl⟩
abbrev main_call1_v0 : Ref sig .tc := ⟨.hbm, 80, rfl⟩
abbrev main_v45 : Ref sig .tc := ⟨.hbm, 81, rfl⟩
abbrev main_v46 : Ref sig .tc := ⟨.hbm, 82, rfl⟩
abbrev main_call2_cst : Ref sig .tc := ⟨.hbm, 83, rfl⟩
abbrev main_call2_v0 : Ref sig .tc := ⟨.hbm, 84, rfl⟩
abbrev main_v47 : Ref sig .tc := ⟨.hbm, 85, rfl⟩
abbrev main_v48 : Ref sig .tc := ⟨.hbm, 86, rfl⟩
abbrev main_call3_cst : Ref sig .tc := ⟨.hbm, 87, rfl⟩
abbrev main_call3_v0 : Ref sig .tc := ⟨.hbm, 88, rfl⟩
abbrev main_v49 : Ref sig .tc := ⟨.hbm, 89, rfl⟩
abbrev main_v50 : Ref sig .tc := ⟨.hbm, 90, rfl⟩
abbrev main_call4_cst : Ref sig .tc := ⟨.hbm, 91, rfl⟩
abbrev main_call4_v0 : Ref sig .tc := ⟨.hbm, 92, rfl⟩
abbrev main_v51 : Ref sig .tc := ⟨.hbm, 93, rfl⟩
abbrev main_v52 : Ref sig .tc := ⟨.hbm, 94, rfl⟩
abbrev main_call5_cst : Ref sig .tc := ⟨.hbm, 95, rfl⟩
abbrev main_call5_v0 : Ref sig .tc := ⟨.hbm, 96, rfl⟩
abbrev main_v53 : Ref sig .tc := ⟨.hbm, 97, rfl⟩
abbrev main_v54 : Ref sig .tc := ⟨.hbm, 98, rfl⟩
abbrev main_call6_cst : Ref sig .tc := ⟨.hbm, 99, rfl⟩
abbrev main_call6_v0 : Ref sig .tc := ⟨.hbm, 100, rfl⟩
abbrev main_v55 : Ref sig .tc := ⟨.hbm, 101, rfl⟩
abbrev main_v56 : Ref sig .tc := ⟨.hbm, 102, rfl⟩
abbrev main_call7_cst : Ref sig .tc := ⟨.hbm, 103, rfl⟩
abbrev main_call7_v0 : Ref sig .tc := ⟨.hbm, 104, rfl⟩
abbrev main_v57 : Ref sig .tc := ⟨.hbm, 105, rfl⟩
abbrev main_v58 : Ref sig .tc := ⟨.hbm, 106, rfl⟩
abbrev main_call8_cst : Ref sig .tc := ⟨.hbm, 107, rfl⟩
abbrev main_call8_v0 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_2 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩

abbrev nD : Nat := 1
abbrev τ : Topo := Topo.v7x

variable {F : FTy → Type} [FloatOps F]
-- ==== Proof.KernelFrame.lean ====
/- The frame of `Kernel` at any float values: it runs to the end without a fault, leaves its arguments as they were and
   every semaphore counter at zero. What the output holds is forgotten: at the bit-exact values a matrix product may
   depend on the columns past the vertices' end, which nothing names. -/
module

public import proofs.«01_k».proof.Proof.KernelData
public import proofs.«01_k».proof.Defs

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's window is forgotten: nothing is said of what the body leaves there. -/
def forgets (w : Fin 11) : Bool := w == 10

set_option maxHeartbeats 4000000 in
/-- The pipeline's obligation on the body, the output's buffer at anything before and after. -/
theorem body_obligation (c : Dev nD) :
    BodyObligationLoose (dats (F := F) m 0 c) (defs₀ (F := F)) Variants.none () Set.univ forgets := fun t => by
  rw [bigSep_W0, bigSep_W0, defs₀_row]
  simp only [forgets, show ((0 : Fin 11) == 10) = false from rfl, show ((1 : Fin 11) == 10) = false from rfl,
    show ((2 : Fin 11) == 10) = false from rfl, show ((3 : Fin 11) == 10) = false from rfl,
    show ((4 : Fin 11) == 10) = false from rfl, show ((5 : Fin 11) == 10) = false from rfl,
    show ((6 : Fin 11) == 10) = false from rfl, show ((7 : Fin 11) == 10) = false from rfl,
    show ((8 : Fin 11) == 10) = false from rfl, show ((9 : Fin 11) == 10) = false from rfl,
    show ((10 : Fin 11) == 10) = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  rw [before_0 m c t d0, before_1 m c t d1, before_2 m c t d2, before_3 m c t d3, before_4 m c t d4, before_5 m c t d5,
    before_6 m c t d6, before_7 m c t d7, before_8 m c t d8, before_9 m c t d9]
  iapply (sound_at (F := F) m c t d0 _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Ho]; · iexact Ho
  have hx : (win0 0).cut (grid0.coords t) ((dats m 0 c).after 0 t) = iblk m c 0 t := win0_0.cut_fill _ _ _
  isplitl [H0]
  · iexists d0
    rw [hx]; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The host line after the region writes `main_v2` only. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  by_contra hne
  exact StableHlo.devRef_ne_of_ne (fun h => hne (Finset.mem_singleton.mpr h)) hb

set_option backward.isDefEq.respectTransparency.types false in
/-- Every weakly fair execution of @main terminates with every buffer other than the output's at its region-entry
    contents and every semaphore counter at zero. -/
theorem run_main :
    θ_run defs (onTc (τ := τ) (main (F := F))) (s₀ m ρ)
      (fun r => Pipeline.RDat.FramePostR (cfgs 0) (fun c => (dats m 0 c).toRForget forgets) {main_v2} (V m) r ∧ r.2.sem = fun _ => 0) :=
  Pipeline.θ_run_frame_around_T_forget (Q' := _) cfgs (dats m) (0 : Fin 1) launch0 defs₀ Variants.none forgets {main_v2} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

variable {m}

/-- What the run says of a buffer that is neither an array of the pipeline nor written after it. -/
theorem rest_kept {r : PUnit × MemSt nD τ sig (Elt F)}
    (h : Pipeline.RDat.FramePostR (cfgs 0) (fun c => (dats (F := F) m 0 c).toRForget forgets) {main_v2} (V m) r) (c : Dev nD)
    (b : Ref sig .tc) (hb : b ∈ Pipeline.restRefs sig spec0) (hne : b ≠ main_v2) :
    r.2.mem ((c : Thread nD τ).loc b) = V m c b :=
  (h c).2 b (Finset.mem_sdiff.mpr ⟨hb, fun hm => hne (Finset.mem_singleton.mp hm)⟩)

/-- What the run says of an input window's array. -/
theorem arr_kept {r : PUnit × MemSt nD τ sig (Elt F)}
    (h : Pipeline.RDat.FramePostR (cfgs 0) (fun c => (dats (F := F) m 0 c).toRForget forgets) {main_v2} (V m) r) (c : Dev nD)
    (w : Fin cfg0.W) (hin : (cfg0.win w).isOut = false) :
    r.2.mem ((cfg0.spec w).arr.view.loc (c.tc : Thread nD τ)) = V m c (Pipeline.arrRef spec0 w) :=
  (Pipeline.RDat.FramePostR.arr_in h c w hin).trans (A_eq m c w)

/-- `Cert.quiescent_Kernel`: the run at the bit-exact values, read at the arguments and the counters. -/
theorem frame : Cert.quiescent_Kernel := by
  intro m ρ _
  refine (θ_run defs _ _).mono (fun r h => ⟨fun c => ?_, h.2⟩) (run_main (F := Bits) m ρ)
  exact ⟨(rest_kept h.1 c main_arg0 (Pipeline.mem_restRefs_of main_arg0 (by decide) (by decide)) (by decide)).trans (V_main_arg0 m c),
    (rest_kept h.1 c main_arg1 (Pipeline.mem_restRefs_of main_arg1 (by decide) (by decide)) (by decide)).trans (V_main_arg1 m c),
    (arr_kept h.1 c 1 rfl).trans (V_main_arg2 m c), (arr_kept h.1 c 2 rfl).trans (V_main_arg3 m c),
    (arr_kept h.1 c 3 rfl).trans (V_main_arg4 m c), (arr_kept h.1 c 4 rfl).trans (V_main_arg5 m c),
    (arr_kept h.1 c 5 rfl).trans (V_main_arg6 m c), (arr_kept h.1 c 6 rfl).trans (V_main_arg7 m c),
    (arr_kept h.1 c 7 rfl).trans (V_main_arg8 m c), (arr_kept h.1 c 8 rfl).trans (V_main_arg9 m c),
    (arr_kept h.1 c 9 rfl).trans (V_main_arg10 m c)⟩

end Cert.Kernel.Hand

end
-- ==== Proof.IdealBody.lean ====
/- One run of the kernel body of `KernelIdeal`, at any contents of its eleven staging buffers: the ten inputs are left as they
   were found and the output's buffer ends at `blockOut`, the composition of the named payloads of the printed body. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- What the body computes from its input blocks: the vertices' block `x` and the nine weight matrices. -/
def blockOut (x : S3x8192.Idx → Elt F .f32) (w0 : S33x128.Idx → Elt F .f32)
    (w1 w2 w3 w4 w5 w6 w7 : S128x128.Idx → Elt F .f32) (w8 : S128x4.Idx → Elt F .f32) : S4x8192.Idx → Elt F .f32 :=
  k0_pay1 (F := F) (k0_pay2 (F := F) x) (k0_pay4 (F := F) (k0_pay3 (F := F) x w0) w1 w2 w3 w4 w5 w6) w7 w8

/-- The offsets of every access of the body are zero. -/
theorem zero_offsets : (![0, 0] : Fin 2 → Nat) = fun _ => 0 := funext fun a => by fin_cases a <;> rfl

/-- A load of the whole of a buffer, through any view of it, reads what the view reads. -/
theorem load_all {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- After an unmasked store over the whole of a buffer the view reads the stored value. -/
theorem read_store_all {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  funext x
  have hx := View.read_writes_cons_emb (Val := Elt F) v f (Rect.whole S) w [] x
  rw [Rect.emb_whole_apply] at hx
  exact hx

set_option maxHeartbeats 4000000 in
/-- The body's triple: over whole staging buffers holding `x`, the nine weights and anything at all, the body ends with
    the inputs untouched and the output's buffer holding `blockOut`. -/
theorem body_run (c : Dev nD) (E : Set ℕ) (i : grid0.Coords)
    (a1 : Memref sig .tc .vmem S3x8192 .f32) (h1 : a1.IsWhole) (a2 : Memref sig .tc .vmem S33x128 .f32) (h2 : a2.IsWhole)
    (a3 : Memref sig .tc .vmem S128x128 .f32) (h3 : a3.IsWhole) (a4 : Memref sig .tc .vmem S128x128 .f32) (h4 : a4.IsWhole)
    (a5 : Memref sig .tc .vmem S128x128 .f32) (h5 : a5.IsWhole) (a6 : Memref sig .tc .vmem S128x128 .f32) (h6 : a6.IsWhole)
    (a7 : Memref sig .tc .vmem S128x128 .f32) (h7 : a7.IsWhole) (a8 : Memref sig .tc .vmem S128x128 .f32) (h8 : a8.IsWhole)
    (a9 : Memref sig .tc .vmem S128x128 .f32) (h9 : a9.IsWhole) (a10 : Memref sig .tc .vmem S128x4 .f32) (h10 : a10.IsWhole)
    (a11 : Memref sig .tc .vmem S4x8192 .f32) (h11 : a11.IsWhole)
    (x : S3x8192.Idx → Elt F .f32) (w0 : S33x128.Idx → Elt F .f32)
    (w1 w2 w3 w4 w5 w6 w7 : S128x128.Idx → Elt F .f32) (w8 : S128x4.Idx → Elt F .f32) (K : PUnit → sProp 𝕄) :
    iprop((owns (c : Thread nD τ) a1 fullShare x ∗ owns (c : Thread nD τ) a2 fullShare w0 ∗ owns (c : Thread nD τ) a3 fullShare w1
            ∗ owns (c : Thread nD τ) a4 fullShare w2 ∗ owns (c : Thread nD τ) a5 fullShare w3 ∗ owns (c : Thread nD τ) a6 fullShare w4
            ∗ owns (c : Thread nD τ) a7 fullShare w5 ∗ owns (c : Thread nD τ) a8 fullShare w6 ∗ owns (c : Thread nD τ) a9 fullShare w7
            ∗ owns (c : Thread nD τ) a10 fullShare w8 ∗ (∃ d, owns (c : Thread nD τ) a11 fullShare d))
          ∗ (iprop(owns (c : Thread nD τ) a1 fullShare x ∗ owns (c : Thread nD τ) a2 fullShare w0 ∗ owns (c : Thread nD τ) a3 fullShare w1
            ∗ owns (c : Thread nD τ) a4 fullShare w2 ∗ owns (c : Thread nD τ) a5 fullShare w3 ∗ owns (c : Thread nD τ) a6 fullShare w4
            ∗ owns (c : Thread nD τ) a7 fullShare w5 ∗ owns (c : Thread nD τ) a8 fullShare w6 ∗ owns (c : Thread nD τ) a9 fullShare w7
            ∗ owns (c : Thread nD τ) a10 fullShare w8
            ∗ owns (c : Thread nD τ) a11 fullShare (blockOut x w0 w1 w2 w3 w4 w5 w6 w7 w8)) -∗ K ⟨⟩))
      ⊢ wp frame (wpE (defs₀ (F := F)) Variants.none c none) E
          (cc0__mlp_block i a1 h1 a2 h2 a3 h3 a4 h4 a5 h5 a6 h6 a7 h7 a8 h8 a9 h9 a10 h10 a11 h11) K := by
  simp only [cc0__mlp_block_eq_skeleton]; unfold cc0__mlp_block_skel
  simp only [k0_part1_eq_skeleton, k0_part2_eq_skeleton]; unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%d, %f11, -, H11⟩⟩, Hk⟩
  sl_exec
  sl_step
  iapply Hk
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  iexists _; isplitr; swap; · iexact H11
  ipureintro
  refine (read_store_all _ _ zero_offsets _ _).trans ?_
  subst e1 e2 e3 e4 e5 e6 e7 e8 e9 e10
  unfold blockOut
  have l1 := load_all a1.view f1 zero_offsets inb_S3x8192_S3x8192_0_0
  have l2 := load_all a2.view f2 zero_offsets inb_S33x128_S33x128_0_0
  have l3 := load_all a3.view f3 zero_offsets inb_S128x128_S128x128_0_0
  have l4 := load_all a4.view f4 zero_offsets inb_S128x128_S128x128_0_0
  have l5 := load_all a5.view f5 zero_offsets inb_S128x128_S128x128_0_0
  have l6 := load_all a6.view f6 zero_offsets inb_S128x128_S128x128_0_0
  have l7 := load_all a7.view f7 zero_offsets inb_S128x128_S128x128_0_0
  have l8 := load_all a8.view f8 zero_offsets inb_S128x128_S128x128_0_0
  have l9 := load_all a9.view f9 zero_offsets inb_S128x128_S128x128_0_0
  have l10 := load_all a10.view f10 zero_offsets inb_S128x4_S128x4_0_0
  rw [← l1, ← l2, ← l3, ← l4, ← l5, ← l6, ← l7, ← l8, ← l9, ← l10]

end Cert.KernelIdeal.Hand

end
-- ==== Proof.IdealData.lean ====
/- The proof data of `KernelIdeal`'s one pipeline: what its arrays hold when the region is entered, and what each staging buffer
   holds after the body ran at a grid point. The vertices' blocks may overhang their array (the last one does), so the
   part past the array's end is stated at a filler, which every later statement leaves open. -/
module

public import proofs.«01_k».proof.Proof.IdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The vertices' staging buffer after the fetch at point `t`: the array's columns on the part inside it, `d` past its end. -/
def vertBlk (c : Dev nD) (t : Fin cfg0.N) (d : S3x8192.Idx → Elt F .f32) : S3x8192.Idx → Elt F .f32 :=
  win0_0.fill (grid0.coords t) d (iblk m c 0 t)

/-- What the body leaves in the output's staging buffer at point `t`, the vertices' buffer filled out with `d`. -/
def outBlk (c : Dev nD) (t : Fin cfg0.N) (d : S3x8192.Idx → Elt F .f32) : S4x8192.Idx → Elt F .f32 :=
  blockOut (vertBlk m c t d) (iblk m c 1 t) (iblk m c 2 t) (iblk m c 3 t) (iblk m c 4 t) (iblk m c 5 t) (iblk m c 6 t)
    (iblk m c 7 t) (iblk m c 8 t) (iblk m c 9 t)

/-- The filler the proof data names: the zero word everywhere. -/
def zeroFill : S3x8192.Idx → Elt F .f32 := fun _ => Scalar.ofBits .f32 0#32

/-- The proof data: the arrays at their contents when the region is entered, the inputs' buffers at their blocks, the
    output's at what the body computes; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => vertBlk m c t zeroFill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t zeroFill
    | ⟨_ + 11, h⟩ => absurd h (Nat.not_lt.2 (Nat.le_add_left _ _))
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by dsimp only [dats]

/-- The body finds the vertices' buffer just fetched. -/
theorem before_0 (c : Dev nD) (t : Fin cfg0.N) (d) : (dats m 0 c).before 0 t d = vertBlk m c t d := by
  unfold Dat.before; rw [if_pos (fetch0_0 t)]; rfl
/-! Each weight matrix's buffer holds the matrix at every point. -/
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d

/-- The body table's row at point `t` is the body on the point's staging buffers. -/
theorem defs₀_row (t : Fin cfg0.N) : defs₀ (F := F) .tc cfg0.body (cfg0.bodyArgs t (cfg0.slots t)) = bodyAt0 t := by
  unfold defs₀; rw [Defs.onTc_tc]

/-- The body at point `t`: the inputs' buffers kept, the output's at `outBlk`. -/
theorem sound_at (c : Dev nD) (t : Fin cfg0.N) (d0 : S3x8192.Idx → Elt F .f32) (K : PUnit → sProp 𝕄) :
    iprop((owns (c : Thread nD τ) (st0_0 t) fullShare (vertBlk m c t d0)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ (∃ d, owns (c : Thread nD τ) (st0_10 t) fullShare d))
      ∗ (iprop(owns (c : Thread nD τ) (st0_0 t) fullShare (vertBlk m c t d0)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare (outBlk m c t d0)) -∗ K ⟨⟩))
      ⊢ wp frame (wpE (defs₀ (F := F)) Variants.none c none) Set.univ (bodyAt0 t) K :=
  body_run c Set.univ (grid0.coords t) _ _ _ _ _ _ _ _ _ _ _ _ _ _ _ _ _ _ _ _ _ _ (vertBlk m c t d0) (iblk m c 1 t)
    (iblk m c 2 t) (iblk m c 3 t) (iblk m c 4 t) (iblk m c 5 t) (iblk m c 6 t) (iblk m c 7 t) (iblk m c 8 t) (iblk m c 9 t) K

end Cert.KernelIdeal.Hand

end
-- ==== Proof.Mlp.lean ====
/- The decoder on one vertex, over the extended reals: the embedding of its three coordinates, eight layers, the last
   product, and the four numbers the program returns for it. Both programs are read as these functions. -/
module

public import Idealize.ShloMosaic.PureOps.Ideal.Laws
public import Idealize.ShloMosaic.Lib.Pointwise

@[expose] public section

noncomputable section

namespace Cert.Mlp

open Idealize.ShloMosaic

/-- A matrix of extended reals. -/
abbrev Mat (k n : ℕ) := (⟨2, ![k, n]⟩ : Shape).Idx → EReal

/-- A vector against a matrix: entry `i` is the sum over `a` of `W[a, i] · h[a]`. -/
def dense {k n : ℕ} (W : Mat k n) (h : Fin k → EReal) (i : Fin n) : EReal := ∑ a : Fin k, W (ix2 a i) * h a

/-- The positive part of each entry. -/
def relu {n : ℕ} (h : Fin n → EReal) (i : Fin n) : EReal := max (h i) 0

/-- The nine products with the positive part between them. -/
def decode (W0 : Mat 33 128) (W1 W2 W3 W4 W5 W6 W7 : Mat 128 128) (W8 : Mat 128 4) (e : Fin 33 → EReal) : Fin 4 → EReal :=
  dense W8 (relu (dense W7 (relu (dense W6 (relu (dense W5 (relu (dense W4 (relu (dense W3 (relu (dense W2 (relu
    (dense W1 (relu (dense W0 e))))))))))))))))

/-- The constant the deformation is scaled by: the value of the word `0x38D1B717`. -/
def scale : EReal := Ideal.ofBits .f32 0x38D1B717#32

/-- The four numbers returned for vertex `v` when the decoder says `o`: the first entry of `o`, then each coordinate
    moved by the scaled hyperbolic tangent of its entry. -/
def assemble (v : Fin 3 → EReal) (o : Fin 4 → EReal) : Fin 4 → EReal :=
  ![o 0, v 0 + scale * Ideal.tanh (o 1), v 1 + scale * Ideal.tanh (o 2), v 2 + scale * Ideal.tanh (o 3)]

/-- An embedding of three coordinates given by eleven numbers per coordinate: entry `k` is number `k / 3` of coordinate `k % 3`. -/
def embedBy (p : EReal → Fin 11 → EReal) (v : Fin 3 → EReal) (k : Fin 33) : EReal :=
  p (v ⟨k.val % 3, Nat.mod_lt _ (by norm_num)⟩) ⟨k.val / 3, by omega⟩

/-- The value of the word `0x40000000`. -/
def two : EReal := Ideal.ofBits .f32 0x40000000#32

/-- The value of the word `0x3F800000`. -/
def one : EReal := Ideal.ofBits .f32 0x3F800000#32

/-- One doubling of an angle: sine and cosine of `2θ` from those of `θ`. -/
def double (p : EReal × EReal) : EReal × EReal := (two * p.1 * p.2, one - two * p.1 * p.1)

/-- Sine and cosine of `x` after `n` doublings. -/
def doubled (x : EReal) : ℕ → EReal × EReal
  | 0 => (Ideal.sin x, Ideal.cos x)
  | n + 1 => double (doubled x n)

/-- The kernel's eleven numbers of a coordinate: itself, then sine and cosine by repeated doubling. -/
def byDoubling (x : EReal) : Fin 11 → EReal :=
  ![x, (doubled x 0).1, (doubled x 0).2, (doubled x 1).1, (doubled x 1).2, (doubled x 2).1, (doubled x 2).2,
    (doubled x 3).1, (doubled x 3).2, (doubled x 4).1, (doubled x 4).2]

/-- The reference's eleven numbers of a coordinate: itself, then sine and cosine of its product with each frequency. -/
def byFreq (f : Fin 5 → EReal) (x : EReal) : Fin 11 → EReal :=
  ![x, Ideal.sin (x * f 0), Ideal.cos (x * f 0), Ideal.sin (x * f 1), Ideal.cos (x * f 1), Ideal.sin (x * f 2), Ideal.cos (x * f 2),
    Ideal.sin (x * f 3), Ideal.cos (x * f 3), Ideal.sin (x * f 4), Ideal.cos (x * f 4)]

/-- The word of two is the real two. -/
theorem two_eq : two = ((2 : ℝ) : EReal) := by
  unfold two; simp [Ideal.ofBits, Ideal.ieee, -EReal.coe_mul]; norm_num

/-- The word of one is the real one. -/
theorem one_eq : one = ((1 : ℝ) : EReal) := by
  unfold one; simp [Ideal.ofBits, Ideal.ieee, -EReal.coe_mul]; norm_num

/-- At a real coordinate `n` doublings give the sine and cosine of `x · 2ⁿ`. -/
theorem doubled_coe (x : ℝ) (n : ℕ) :
    doubled (x : EReal) n = ((Real.sin (x * 2 ^ n) : EReal), (Real.cos (x * 2 ^ n) : EReal)) := by
  induction n with
  | zero => simp [doubled]
  | succ n ih =>
    have h2 : x * 2 ^ (n + 1) = 2 * (x * 2 ^ n) := by ring
    rw [doubled, ih, double, two_eq, one_eq, h2, Real.sin_two_mul, Real.cos_two_mul, Real.cos_sq']
    refine Prod.ext ?_ ?_
    · simp only [EReal.coe_mul]
    · simp only [← EReal.coe_mul, ← EReal.coe_sub]
      exact congrArg _ (by ring)

/-- At a real coordinate the two lists of eleven numbers agree, where frequency `n` is `2ⁿ`. -/
theorem byDoubling_eq_byFreq (f : Fin 5 → EReal) (hf : ∀ n : Fin 5, f n = ((2 ^ n.val : ℝ) : EReal)) (x : ℝ) :
    byDoubling (x : EReal) = byFreq f (x : EReal) := by
  unfold byDoubling byFreq
  simp only [doubled_coe, hf, ← EReal.coe_mul, Ideal.sin_coe, Ideal.cos_coe]
  rfl

/-- So at a vertex of real coordinates the two embeddings agree. -/
theorem embedBy_eq (f : Fin 5 → EReal) (hf : ∀ n : Fin 5, f n = ((2 ^ n.val : ℝ) : EReal)) (v : Fin 3 → EReal)
    (hv : ∀ k, ∃ x : ℝ, v k = (x : EReal)) : embedBy byDoubling v = embedBy (byFreq f) v := by
  funext k
  obtain ⟨x, hx⟩ := hv ⟨k.val % 3, Nat.mod_lt _ (by norm_num)⟩
  unfold embedBy
  rw [hx, byDoubling_eq_byFreq f hf x]

end Cert.Mlp

end
-- ==== Proof.IdealBlock.lean ====
/- What one block of `KernelIdeal` computes over the extended reals: column `j` of the block the body stores is the
   decoder on column `j` of the block it loads, and nothing else of that block. -/
module

public import proofs.«01_k».proof.Proof.IdealData
public import proofs.«01_k».proof.Proof.Mlp
public import Idealize.ShloMosaic.Lib.Pointwise

@[expose] public section

noncomputable section

namespace Cert.KernelIdeal.Hand

open Cert.KernelIdeal Cert.KernelIdeal.Gen Cert.Mlp
open Idealize.ShloMosaic

/-- A column of an array of columns. -/
def column {n p : ℕ} (x : (⟨2, ![n, p]⟩ : Shape).Idx → EReal) (j : Fin p) (k : Fin n) : EReal := x (ix2 k j)

/-- The embedding of a whole block: eleven blocks of three rows. -/
def embedBlock (x : FVec Ideal S3x8192 .f32) : FVec Ideal S33x8192 .f32 :=
  concatenate S33x8192 0 (List.ofFn fun n : Fin 11 => (⟨S3x8192, fun i => byDoubling (x i) n⟩ : (s : Shape) × (s.Idx → EReal)))
    concatenates_S3x8192_S3x8192_S3x8192_S3x8192_S3x8192_S3x8192_S3x8192_S3x8192_S3x8192_S3x8192_S3x8192_S33x8192_d0

/-- Column `j` of the embedding is the embedding of column `j`. -/
theorem embedBlock_apply (x : FVec Ideal S3x8192 .f32) (k : Fin 33) (j : Fin 8192) :
    embedBlock x (ix2 k j) = embedBy byDoubling (column x j) k :=
  concatenate_ofFn_apply (t := S33x8192) (s₁ := S3x8192) 0 (fun (n : Fin 11) i => byDoubling (x i) n) _ rfl 3 rfl (ix2 k j)
    ⟨k.val / 3, by omega⟩ rfl (ix2 ⟨k.val % 3, Nat.mod_lt _ (by norm_num)⟩ j) rfl
    (fun b hb => by match b with | ⟨0, _⟩ => exact absurd rfl hb | ⟨1, _⟩ => rfl)

/-- The first product is that of the embedded block. -/
theorem first_eq (x : FVec Ideal S3x8192 .f32) (w : FVec Ideal S33x128 .f32) :
    k0_pay3 (F := Ideal) x w = truncf .bf16 (matmul dot_S33x128_S33x8192_S128x8192_0_0_1_1_n_n none
      (truncf .bf16 w bitsLt_bf16_f32) (truncf .bf16 (embedBlock x) bitsLt_bf16_f32) (constant S128x8192 .f32 0x00000000#32))
      bitsLt_bf16_f32 := by
  have h2 : k0_pay2 (F := Ideal) x = x := by unfold k0_pay2; exact shapeCast_self _ _
  unfold k0_pay3
  rw [h2]
  rfl

/-- Column `j` after the first product. -/
theorem first_apply (x : FVec Ideal S3x8192 .f32) (w : FVec Ideal S33x128 .f32) (r : Fin 128) (j : Fin 8192) :
    k0_pay3 (F := Ideal) x w (ix2 r j) = dense w (embedBy byDoubling (column x j)) r := by
  rw [first_eq]
  pointwise [dense]
  simp only [embedBlock_apply]

/-- Column `j` after the six hidden products that follow. -/
theorem hidden_apply (h : FVec Ideal S128x8192 .bf16) (w1 w2 w3 w4 w5 w6 : FVec Ideal S128x128 .f32) (r : Fin 128) (j : Fin 8192) :
    k0_pay4 (F := Ideal) h w1 w2 w3 w4 w5 w6 (ix2 r j)
      = dense w6 (relu (dense w5 (relu (dense w4 (relu (dense w3 (relu (dense w2 (relu (dense w1 (relu (column h j)))))))))))) r := by
  pointwise [k0_pay4, dense, relu, column]

/-- The last two products, the hyperbolic tangent and the sum, at column `j`. -/
theorem last_apply (x : FVec Ideal S3x8192 .f32) (h : FVec Ideal S128x8192 .bf16) (w7 : FVec Ideal S128x128 .f32)
    (w8 : FVec Ideal S128x4 .f32) (r : Fin 4) (j : Fin 8192) :
    k0_pay1 (F := Ideal) x h w7 w8 (ix2 r j)
      = assemble (column x j) (dense w8 (relu (dense w7 (relu (column h j))))) r := by
  pointwise [k0_pay1, dense, relu, column]
  fin_cases r <;> simp [assemble, scale, dense, relu, column]

/-- Column `j` of what the body stores: the decoder on column `j` of what it loads. -/
theorem blockOut_apply (x : FVec Ideal S3x8192 .f32) (w0 : FVec Ideal S33x128 .f32) (w1 w2 w3 w4 w5 w6 w7 : FVec Ideal S128x128 .f32)
    (w8 : FVec Ideal S128x4 .f32) (r : Fin 4) (j : Fin 8192) :
    blockOut (F := Ideal) x w0 w1 w2 w3 w4 w5 w6 w7 w8 (ix2 r j)
      = assemble (column x j) (decode w0 w1 w2 w3 w4 w5 w6 w7 w8 (embedBy byDoubling (column x j))) r := by
  have h2 : k0_pay2 (F := Ideal) x = x := by unfold k0_pay2; exact shapeCast_self _ _
  unfold blockOut
  rw [h2, last_apply]
  unfold decode
  have hc : column (k0_pay4 (F := Ideal) (k0_pay3 x w0) w1 w2 w3 w4 w5 w6) j
      = dense w6 (relu (dense w5 (relu (dense w4 (relu (dense w3 (relu (dense w2 (relu (dense w1 (relu
          (dense w0 (embedBy byDoubling (column x j)))))))))))))) := by
    funext k
    have h3 : column (k0_pay3 (F := Ideal) x w0) j = dense w0 (embedBy byDoubling (column x j)) := funext fun a => first_apply x w0 a j
    exact (hidden_apply _ w1 w2 w3 w4 w5 w6 k j).trans (by rw [h3])
  rw [hc]

end Cert.KernelIdeal.Hand

end
-- ==== Proof.IdealArray.lean ====
/- What the arrays of `KernelIdeal` hold over the extended reals: each block the body reads, at coordinates; the output
   array after the last write-back; and the returned array, its transpose. The last block of vertices overhangs their
   array: the columns past its end hold contents nothing names, and the output's columns past its end, which depend on
   them alone, are not written back. -/
module

public import proofs.«01_k».proof.Proof.IdealBlock
public import Idealize.ShloMosaic.Lib.Pipeline.ValueKit.Geometry
public import Idealize.ShloMosaic.Lib.StableHlo.ReadAt

@[expose] public section

noncomputable section

namespace Cert.KernelIdeal.Hand

open Cert.KernelIdeal Cert.KernelIdeal.Gen Cert.Mlp
open Idealize.ShloMosaic Idealize.ShloMosaic.TcCoe

variable (m : (ℓ : Loc nD τ sig) → Buf (Elt Ideal) ℓ)

/-! ## The blocks at coordinates -/

/-- The array the vertices' window reads is the transpose of the vertices. -/
theorem verts_apply (c : Dev nD) (k : Fin 3) (p : Fin 100000) :
    V m c main_v0 (ix2 k p) = m ((c : Thread nD τ).loc main_arg0) (ix2 p k) := by
  unfold V V0
  simp only [hostOps0, List.flatten_cons, List.flatten_nil, List.append_nil]
  after_reads_at

/-- At point `t` the vertices' block starts at column `8192 · t`, … -/
theorem index_vert : ∀ t : Fin cfg0.N, win0_0.index t = ![0, t.val] := by decide +kernel
/-- … and so does the output's; … -/
theorem index_out : ∀ t : Fin cfg0.N, win0_10.index t = ![0, t.val] := by decide +kernel
/-- … both have as many columns inside their arrays, and the vertices' block all three rows. -/
theorem xsize_eq : ∀ t : Fin cfg0.N,
    win0_0.xsize (grid0.coords t) 1 = win0_10.xsize (grid0.coords t) 1 ∧ win0_0.xsize (grid0.coords t) 0 = 3 := by
  decide +kernel
/-- The output's blocks cover its array. -/
theorem covers_out : (cfg0.win 10).Covers := by decide +kernel

/-- A weight matrix's window stays at block zero, … -/
theorem index_weight : ∀ w : Fin cfg0.W, w ≠ 0 → w ≠ 10 → ∀ (t : Fin cfg0.N) (a : Fin (cfg0.win w).shape.rank),
    (cfg0.win w).index t a = 0 := by decide +kernel
/-- … so an index of its block is the same index of its array. -/
theorem emb_weight (w : Fin cfg0.W) (h0 : w ≠ 0) (h10 : w ≠ 10) (t : Fin cfg0.N)
    (y : ((cfg0.win w).xblock (cfg0.grid.coords t)).Idx) (a : Fin (cfg0.win w).shape.rank) :
    (((cfg0.win w).rect t).emb y a : ℕ) = (y a : ℕ) :=
  (cfg0.win w).rect_emb_val_of_index_zero t a (index_weight w h0 h10 t a) y

/-! Hence each of the nine windows stages its whole matrix at every point. -/
theorem weights_1 (c : Dev nD) (t : Fin cfg0.N) : iblk m c 1 t = m ((c : Thread nD τ).loc main_arg2) :=
  funext fun j => (congrArg (V m c main_arg2) (funext fun a => Fin.ext (emb_weight 1 (by decide) (by decide) t j a))).trans
    (congrFun (V_main_arg2 m c) j)
theorem weights_2 (c : Dev nD) (t : Fin cfg0.N) : iblk m c 2 t = m ((c : Thread nD τ).loc main_arg3) :=
  funext fun j => (congrArg (V m c main_arg3) (funext fun a => Fin.ext (emb_weight 2 (by decide) (by decide) t j a))).trans
    (congrFun (V_main_arg3 m c) j)
theorem weights_3 (c : Dev nD) (t : Fin cfg0.N) : iblk m c 3 t = m ((c : Thread nD τ).loc main_arg4) :=
  funext fun j => (congrArg (V m c main_arg4) (funext fun a => Fin.ext (emb_weight 3 (by decide) (by decide) t j a))).trans
    (congrFun (V_main_arg4 m c) j)
theorem weights_4 (c : Dev nD) (t : Fin cfg0.N) : iblk m c 4 t = m ((c : Thread nD τ).loc main_arg5) :=
  funext fun j => (congrArg (V m c main_arg5) (funext fun a => Fin.ext (emb_weight 4 (by decide) (by decide) t j a))).trans
    (congrFun (V_main_arg5 m c) j)
theorem weights_5 (c : Dev nD) (t : Fin cfg0.N) : iblk m c 5 t = m ((c : Thread nD τ).loc main_arg6) :=
  funext fun j => (congrArg (V m c main_arg6) (funext fun a => Fin.ext (emb_weight 5 (by decide) (by decide) t j a))).trans
    (congrFun (V_main_arg6 m c) j)
theorem weights_6 (c : Dev nD) (t : Fin cfg0.N) : iblk m c 6 t = m ((c : Thread nD τ).loc main_arg7) :=
  funext fun j => (congrArg (V m c main_arg7) (funext fun a => Fin.ext (emb_weight 6 (by decide) (by decide) t j a))).trans
    (congrFun (V_main_arg7 m c) j)
theorem weights_7 (c : Dev nD) (t : Fin cfg0.N) : iblk m c 7 t = m ((c : Thread nD τ).loc main_arg8) :=
  funext fun j => (congrArg (V m c main_arg8) (funext fun a => Fin.ext (emb_weight 7 (by decide) (by decide) t j a))).trans
    (congrFun (V_main_arg8 m c) j)
theorem weights_8 (c : Dev nD) (t : Fin cfg0.N) : iblk m c 8 t = m ((c : Thread nD τ).loc main_arg9) :=
  funext fun j => (congrArg (V m c main_arg9) (funext fun a => Fin.ext (emb_weight 8 (by decide) (by decide) t j a))).trans
    (congrFun (V_main_arg9 m c) j)
theorem weights_9 (c : Dev nD) (t : Fin cfg0.N) : iblk m c 9 t = m ((c : Thread nD τ).loc main_arg10) :=
  funext fun j => (congrArg (V m c main_arg10) (funext fun a => Fin.ext (emb_weight 9 (by decide) (by decide) t j a))).trans
    (congrFun (V_main_arg10 m c) j)

/-- A column of the vertices' staging buffer that lies inside the array is a vertex, whatever fills out the buffer. -/
theorem vert_column (c : Dev nD) (t : Fin cfg0.N) (d : S3x8192.Idx → Elt Ideal .f32) (q : Fin 8192) (p : Fin 100000)
    (hq : q.val < win0_0.xsize (grid0.coords t) 1) (hp : p.val = t.val * 8192 + q.val) :
    column (vertBlk m c t d) q = fun k => m ((c : Thread nD τ).loc main_arg0) (ix2 p k) := by
  funext k
  have h0 : k.val < win0_0.xsize (grid0.coords t) 0 := by rw [(xsize_eq t).2]; exact k.isLt
  let y : (win0_0.xblock (grid0.coords t)).Idx := fun a => match a with | ⟨0, _⟩ => ⟨k.val, h0⟩ | ⟨1, _⟩ => ⟨q.val, hq⟩
  have hy : ix2 k q = win0_0.xinj (grid0.coords t) y := by
    funext a; match a with | ⟨0, _⟩ => rfl | ⟨1, _⟩ => rfl
  rw [← verts_apply m c k p]
  unfold column vertBlk
  rw [hy, win0_0.fill_xinj]
  blk_simp [iblk]
  refine congrArg _ ?_
  funext a
  match a with
  | ⟨0, _⟩ => apply Fin.ext; blk_simp [index_vert]; simp [y]
  | ⟨1, _⟩ => apply Fin.ext; blk_simp [index_vert]; simp [y, hp]

/-! ## What the body leaves inside the output array -/

/-- The decoder on vertex `p` of the vertices `x`: the four numbers returned for it. -/
def rowOf (x : (⟨2, ![100000, 3]⟩ : Shape).Idx → EReal) (w0 : Mat 33 128) (w1 w2 w3 w4 w5 w6 w7 : Mat 128 128) (w8 : Mat 128 4)
    (p : Fin 100000) : Fin 4 → EReal :=
  assemble (fun k => x (ix2 p k)) (decode w0 w1 w2 w3 w4 w5 w6 w7 w8 (embedBy byDoubling fun k => x (ix2 p k)))

/-- The same of the launch contents of the program's arguments. -/
def rowAt (c : Dev nD) (p : Fin 100000) : Fin 4 → EReal :=
  rowOf (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) p

/-- A column of the output's staging buffer that lies inside the array: the decoder on its vertex, whatever fills out
    the vertices' buffer. -/
theorem outBlk_apply (c : Dev nD) (t : Fin cfg0.N) (d : S3x8192.Idx → Elt Ideal .f32) (r : Fin 4) (q : Fin 8192) (p : Fin 100000)
    (hq : q.val < win0_0.xsize (grid0.coords t) 1) (hp : p.val = t.val * 8192 + q.val) :
    outBlk m c t d (ix2 r q) = rowAt m c p r := by
  unfold outBlk rowAt rowOf
  rw [weights_1, weights_2, weights_3, weights_4, weights_5, weights_6, weights_7, weights_8, weights_9]
  refine (blockOut_apply _ _ _ _ _ _ _ _ _ _ r q).trans ?_
  rw [vert_column m c t d q p hq hp]

/-- An index of the part of the output's block inside the array: the array's column it stands for. -/
theorem out_col (t : Fin cfg0.N) (y : (win0_10.xblock (grid0.coords t)).Idx) :
    (y 1).val < win0_0.xsize (grid0.coords t) 1 ∧ t.val * 8192 + (y 1).val < 100000 := by
  have h1 : (y 1).val < win0_10.xsize (grid0.coords t) 1 := (y 1).isLt
  have h2 : ∀ t : Fin cfg0.N, t.val * 8192 + win0_10.xsize (grid0.coords t) 1 ≤ 100000 := by decide +kernel
  exact ⟨(xsize_eq t).1 ▸ h1, lt_of_lt_of_le (Nat.add_lt_add_left h1 _) (h2 t)⟩

/-- At such an index. -/
theorem outBlk_inside (c : Dev nD) (t : Fin cfg0.N) (d : S3x8192.Idx → Elt Ideal .f32) (y : (win0_10.xblock (grid0.coords t)).Idx) :
    outBlk m c t d (win0_10.xinj (grid0.coords t) y)
      = rowAt m c ⟨t.val * 8192 + (y 1).val, (out_col t y).2⟩ (win0_10.xinj (grid0.coords t) y 0) := by
  have hj : win0_10.xinj (grid0.coords t) y = ix2 (win0_10.xinj (grid0.coords t) y 0) (win0_10.xinj (grid0.coords t) y 1) := by
    funext a; match a with | ⟨0, _⟩ => rfl | ⟨1, _⟩ => rfl
  rw [hj]
  exact outBlk_apply m c t d _ _ _ (out_col t y).1 rfl

/-- So the filler leaves no trace in what is written back. -/
theorem cut_outBlk (c : Dev nD) (t : Fin cfg0.N) (d : S3x8192.Idx → Elt Ideal .f32) :
    win0_10.cut (grid0.coords t) (outBlk m c t d) = win0_10.cut (grid0.coords t) (outBlk m c t zeroFill) :=
  funext fun y => (outBlk_inside m c t d y).trans (outBlk_inside m c t zeroFill y).symm

/-! ## The output array -/

/-- After the last write-back the output array holds, in column `p`, the decoder on vertex `p`. -/
theorem final_out (c : Dev nD) :
    (dats m 0 c).arrAt 10 cfg0.N = fun i : S4x100000.Idx => rowAt m c (i 1) (i 0) := by
  refine (dats m 0 c).arrAt_eq_of_covers 10 _ covers_out fun t _ y => ?_
  refine (outBlk_inside m c t zeroFill y).trans ?_
  have h0 : ((win0_10.blk t).view.emb y 0 : Fin 4) = win0_10.xinj (grid0.coords t) y 0 := by
    apply Fin.ext; blk_simp [index_out]
  have h1 : ((win0_10.blk t).view.emb y 1 : Fin 100000) = ⟨t.val * 8192 + (y 1).val, (out_col t y).2⟩ := by
    apply Fin.ext; blk_simp [index_out]
  exact (congrArg₂ (rowAt m c) h1 h0).symm

end Cert.KernelIdeal.Hand

end
-- ==== Proof.IdealFrame.lean ====
/- `KernelIdeal` over the extended reals: it runs to the end without a fault, leaves its arguments as they were and every
   semaphore counter at zero, and its result holds, in row `p`, the decoder on vertex `p`. -/
module

public import proofs.«01_k».proof.Proof.IdealArray
public import proofs.«01_k».proof.Defs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable (m : (ℓ : Loc nD τ sig) → Buf (Elt Ideal) ℓ) (ρ : Dev nD → PrngReg)

set_option maxHeartbeats 4000000 in
/-- The pipeline's obligation on the body, exact: the vertices' and the output's buffers are stated up to what lies past
    their arrays' ends. -/
theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8, before_9 m c t d9]
  iapply (sound_at (F := Ideal) m c t d0 _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  iintro ⟨H0, H1, H2, H3, H4, H5, H6, H7, H8, H9, H10⟩
  isplitl [HΦ]; · iexact HΦ
  isplitl [Ho]; · iexact Ho
  have hx : (win0 0).cut (grid0.coords t) ((dats m 0 c).after 0 t) = iblk m c 0 t := win0_0.cut_fill _ _ _
  have hy : (win0 10).fill (grid0.coords t) (outBlk m c t d0) ((win0 10).cut (grid0.coords t) ((dats m 0 c).after 10 t))
      = outBlk m c t d0 :=
    (congrArg (win0_10.fill (grid0.coords t) (outBlk m c t d0)) (cut_outBlk m c t d0).symm).trans (win0_10.fill_cut _ _)
  isplitl [H0]
  · iexists d0
    rw [hx]; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists (outBlk m c t d0)
  rw [hy]; iexact H10

set_option backward.isDefEq.respectTransparency.types false in
/-- Every weakly fair execution of @main terminates with every window's array at its contents after the last point,
    every other buffer at what the host line after the region leaves, and every semaphore counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No two windows stage the same array. -/
theorem arrays_distinct : Function.Injective (Pipeline.arrRef spec0) := by
  have h : ∀ a b : Fin 11, Pipeline.arrRef spec0 a = Pipeline.arrRef spec0 b → a = b := by decide
  exact fun a b => h a b

/-- The host line after the region transposes the output array: row `p` of the result is the decoder on vertex `p`. -/
theorem tail_out (c : Dev nD) :
    Pipeline.afterTail₀ cfgs (dats m) 0 (V0 m) [hostOps1] c main_v2 = fun i : S100000x4.Idx => rowAt m c (i 0) (i 1) := by
  have hv : Pipeline.withArrays spec0 c (V0 m c) (fun w => (dats m 0 c).arrAt w cfg0.N) (Proc.devRef .tc main_v1)
      = fun i : S4x100000.Idx => rowAt m c (i 1) (i 0) :=
    (Pipeline.withArrays_arr spec0 arrays_distinct c (V0 m c) (fun w => (dats m 0 c).arrAt w cfg0.N) 10).trans (final_out m c)
  funext i
  obtain ⟨p, r, rfl⟩ : ∃ p r, i = ix2 p r := ⟨i 0, i 1, by funext a; match a with | ⟨0, _⟩ => rfl | ⟨1, _⟩ => rfl⟩
  unfold Pipeline.afterTail₀
  simp only [hostOps1, List.flatten_cons, List.flatten_nil, List.append_nil]
  after_reads_at
  exact congrFun hv (ix2 r p)

/-- The run read at the result, the arguments and the counters. -/
theorem run_value :
    θ_run defs (onTc (τ := τ) (main (F := Ideal))) ⟨m, fun _ => 0, ρ⟩ (fun r => (∀ c : Dev nD,
      r.2.mem ((c.tc : Thread nD τ).loc main_v2) = (fun i : S100000x4.Idx => rowAt m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    ⟨((h.1 c).2 main_v2 (Pipeline.mem_restRefs_of main_v2 (by decide) (by decide))).trans (tail_out m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 1).trans (((dats m 0 c).arrAt_in 1 rfl _).trans ((A_eq m c 1).trans (V_main_arg2 m c))),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c))),
      ((h.1 c).1 5).trans (((dats m 0 c).arrAt_in 5 rfl _).trans ((A_eq m c 5).trans (V_main_arg6 m c))),
      ((h.1 c).1 6).trans (((dats m 0 c).arrAt_in 6 rfl _).trans ((A_eq m c 6).trans (V_main_arg7 m c))),
      ((h.1 c).1 7).trans (((dats m 0 c).arrAt_in 7 rfl _).trans ((A_eq m c 7).trans (V_main_arg8 m c))),
      ((h.1 c).1 8).trans (((dats m 0 c).arrAt_in 8 rfl _).trans ((A_eq m c 8).trans (V_main_arg9 m c))),
      ((h.1 c).1 9).trans (((dats m 0 c).arrAt_in 9 rfl _).trans ((A_eq m c 9).trans (V_main_arg10 m c)))⟩, h.2⟩)
    (run_main m ρ)

/-- `Cert.quiescent_KernelIdeal`. -/
theorem frame : Cert.quiescent_KernelIdeal :=
  fun m ρ _ => (θ_run defs _ _).mono (fun _ h => ⟨fun c => (h.1 c).2, h.2⟩) (run_value m ρ)

/-- The same claim under the precondition, which it does not use. -/
theorem frame_pre [Cert.Pre_finite_vertices.Facts] : Cert.quiescent_KernelIdeal_pre_finite_vertices :=
  fun m ρ _ => frame m ρ trivial

end Cert.KernelIdeal.Hand

end
-- ==== Proof.RefFrame.lean ====
/- The reference over the extended reals runs to the end, leaves its arguments as they were and every semaphore counter at
   zero: it declares none. -/
module

public import proofs.«01_k».proof.Proof.Gen.ReferenceIdeal.Run
public import proofs.«01_k».proof.Defs
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

/-- `Cert.quiescent_ReferenceIdeal`. -/
theorem frame : Cert.quiescent_ReferenceIdeal :=
  fun m ρ _ => (θ_run defs _ _).mono (fun r h => ⟨fun c => (h c).2, sem_eq_zero_of_no_sems rfl r.2⟩)
    (Cert.ReferenceIdeal.Value.run (F := Ideal) m ρ)

/-- The same claim under the precondition, which it does not use. -/
theorem frame_pre [Cert.Pre_finite_vertices.Facts] : Cert.quiescent_ReferenceIdeal_pre_finite_vertices :=
  fun m ρ _ => frame m ρ trivial

end Cert.ReferenceIdeal.Hand

end
-- ==== Proof.RefFreq.lean ====
/- The five frequencies the reference scales a coordinate by: two to the powers 0, …, 4. -/
module

public import proofs.«01_k».proof.Proof.Gen.ReferenceIdeal
public import proofs.«01_k».proof.Proof.Mlp
public import Idealize.ShloMosaic.Lib.Pointwise

@[expose] public section

noncomputable section

namespace Cert.ReferenceIdeal.Hand

open Cert.ReferenceIdeal Cert.ReferenceIdeal.Gen Cert.Mlp
open Idealize.ShloMosaic

/-- The fractions 0, 1/4, 1/2, 3/4. -/
def fractions : FVec Ideal S4 .f32 :=
  Host.divf (sitofp .f32 (iotaInDim S4 32 0)) (broadcastInDim S4 ![] bcast_S_S4 (constant S_ .f32 0x40800000#32))

/-- The exponents: the first four interpolated between 0 and 4 by the fractions, the last put in as it is. -/
def exponents : FVec Ideal S5 .f32 :=
  concatenate S5 0
    [⟨S4, addf
        (mulf (broadcastInDim S4 ![0] bcast_S1_S4_0 (shapeCast _ (id (constant S_ .f32 0x00000000#32)) shapeCasts_S_S1))
          (subf (broadcastInDim S4 ![] bcast_S_S4 (constant S_ .f32 0x3F800000#32)) fractions))
        (mulf (broadcastInDim S4 ![0] bcast_S1_S4_0 (shapeCast _ (id (constant S_ .f32 0x40800000#32)) shapeCasts_S_S1)) fractions)⟩,
      ⟨S1, broadcastInDim S1 ![] bcast_S_S1 (id (constant S_ .f32 0x40800000#32))⟩]
    concatenates_S4_S1_S5_d0

/-- The powers of two with those exponents. -/
def powers : FVec Ideal S5 .f32 :=
  Host.powf (broadcastInDim S5 ![] bcast_S_S5 (constant S_ .f32 0x40000000#32)) exponents

/-- Power `n`. -/
def freq (n : Fin 5) : EReal := powers (ix1 n)

/-- The word of four is the real four. -/
theorem four_eq : Ideal.ofBits .f32 0x40800000#32 = ((4 : ℝ) : EReal) := by
  simp [Ideal.ofBits, Ideal.ieee, -EReal.coe_mul]; norm_num

/-- Fraction `k` is `k / 4`. -/
theorem fractions_apply (k : Fin 4) : fractions (ix1 k) = ((k.val / 4 : ℝ) : EReal) := by
  pointwise [fractions, four_eq]
  have hk : ((BitVec.ofNat 32 k.val).toInt : ℝ) = (k.val : ℝ) := by fin_cases k <;> rfl
  have hs : (FloatOps.sitofp .f32 (BitVec.ofNat 32 k.val) : Ideal .f32) = (((BitVec.ofNat 32 k.val).toInt : ℝ) : EReal) := rfl
  rw [hs, hk, Ideal.div_coe (by norm_num), ← EReal.coe_mul]
  exact congrArg _ (by ring)

/-- Exponent `k` is `k`. -/
theorem exponents_apply (k : Fin 5) : exponents (ix1 k) = ((k.val : ℝ) : EReal) := by
  have h0 : (id (constant S_ .f32 0x00000000#32) : FVec Ideal S_ .f32) ix0 = ((0 : ℝ) : EReal) := Ideal.ofBits_zero_f32.trans EReal.coe_zero.symm
  have h4 : (id (constant S_ .f32 0x40800000#32) : FVec Ideal S_ .f32) ix0 = ((4 : ℝ) : EReal) := four_eq
  pointwise [exponents]
  rw [h0, h4]
  split_ifs with h
  · rw [fractions_apply, show (1 : EReal) = ((1 : ℝ) : EReal) from rfl, ← EReal.coe_sub, ← EReal.coe_mul, ← EReal.coe_mul, ← EReal.coe_add]
    exact congrArg _ (by ring)
  · have hk : k.val = 4 := by omega
    rw [hk]; norm_num

/-- Frequency `n` is `2ⁿ`. -/
theorem freq_eq (n : Fin 5) : freq n = ((2 ^ n.val : ℝ) : EReal) := by
  unfold freq
  pointwise [powers, exponents_apply]
  rw [show Ideal.ofBits .f32 0x40000000#32 = ((2 : ℝ) : EReal) from two_eq, Ideal.pow_coe_coe]
  exact congrArg _ (Real.rpow_natCast 2 n.val)

/-- One of the powers, sliced out and read as a scalar. -/
theorem scalar_apply (k : Fin 5) (h : S5.Slices ![k.val] S1) :
    (shapeCast S_ (extractStridedSlice S1 ![k.val] powers h) shapeCasts_S1_S_ : FVec Ideal S_ .f32) = fun _ => freq k := by
  funext i
  pointwise [freq]

end Cert.ReferenceIdeal.Hand

end
-- ==== Proof.RefValue.lean ====
/- What the reference returns over the extended reals: in row `p`, the decoder on vertex `p`, embedded by the sines and
   cosines of the coordinates' products with the frequencies. -/
module

public import proofs.«01_k».proof.Proof.RefFreq
public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Cert.Mlp
open Idealize.ShloMosaic Idealize.ShloMosaic.TcCoe

/-- A row of an array of rows. -/
def row {n p : ℕ} (x : (⟨2, ![n, p]⟩ : Shape).Idx → EReal) (j : Fin n) (k : Fin p) : EReal := x (ix2 j k)

/-! ## The embedding -/

/-- The vertices times one frequency. -/
def scaled (x : FVec Ideal S100000x3 .f32) (k : Fin 5) (h : S5.Slices ![k.val] S1) : FVec Ideal S100000x3 .f32 :=
  mulf x (broadcastInDim S100000x3 ![] bcast_S_S100000x3
    (shapeCast S_ (extractStridedSlice S1 ![k.val] powers h) shapeCasts_S1_S_))

/-- Entry by entry. -/
theorem scaled_eq (x : FVec Ideal S100000x3 .f32) (k : Fin 5) (h : S5.Slices ![k.val] S1) : scaled x k h = fun i => x i * freq k := by
  unfold scaled
  rw [scalar_apply k h]
  rfl

/-- Eleven blocks of three columns: the vertices, then the sine and cosine of each of five arrays of angles. -/
def blocks (x g0 g1 g2 g3 g4 : FVec Ideal S100000x3 .f32) : FVec Ideal S100000x33 .f32 :=
  concatenate S100000x33 1
    [⟨S100000x3, x⟩,
      ⟨S100000x3, Host.sin g0⟩, ⟨S100000x3, Host.cos g0⟩,
      ⟨S100000x3, Host.sin g1⟩, ⟨S100000x3, Host.cos g1⟩,
      ⟨S100000x3, Host.sin g2⟩, ⟨S100000x3, Host.cos g2⟩,
      ⟨S100000x3, Host.sin g3⟩, ⟨S100000x3, Host.cos g3⟩,
      ⟨S100000x3, Host.sin g4⟩, ⟨S100000x3, Host.cos g4⟩]
    concatenates_S100000x3_S100000x3_S100000x3_S100000x3_S100000x3_S100000x3_S100000x3_S100000x3_S100000x3_S100000x3_S100000x3_S100000x33_d1

/-- The embedding of all the vertices. -/
def embedRows (x : FVec Ideal S100000x3 .f32) : FVec Ideal S100000x33 .f32 :=
  blocks x (scaled x 0 slices_S5_S1_0) (scaled x 1 slices_S5_S1_1) (scaled x 2 slices_S5_S1_2) (scaled x 3 slices_S5_S1_3)
    (scaled x 4 slices_S5_S1_4)

/-- The same with the eleven blocks as a family. -/
theorem embedRows_eq (x : FVec Ideal S100000x3 .f32) :
    embedRows x = concatenate S100000x33 1
      (List.ofFn fun n : Fin 11 => (⟨S100000x3, fun i => byFreq freq (x i) n⟩ : (s : Shape) × (s.Idx → EReal)))
      concatenates_S100000x3_S100000x3_S100000x3_S100000x3_S100000x3_S100000x3_S100000x3_S100000x3_S100000x3_S100000x3_S100000x3_S100000x33_d1 := by
  unfold embedRows
  rw [scaled_eq, scaled_eq, scaled_eq, scaled_eq, scaled_eq]
  rfl

/-- Row `p` of the embedding is the embedding of row `p`. -/
theorem embedRows_row (x : FVec Ideal S100000x3 .f32) (p : Fin 100000) :
    row (embedRows x) p = embedBy (byFreq freq) (row x p) := by
  funext k
  unfold row
  rw [embedRows_eq]
  exact concatenate_ofFn_apply (t := S100000x33) (s₁ := S100000x3) 1 (fun (n : Fin 11) i => byFreq freq (x i) n) _ rfl 3 rfl (ix2 p k)
    ⟨k.val / 3, by omega⟩ rfl (ix2 p ⟨k.val % 3, Nat.mod_lt _ (by norm_num)⟩) rfl
    (fun b hb => by match b with | ⟨0, _⟩ => rfl | ⟨1, _⟩ => exact absurd rfl hb)

/-! ## The products -/

/-- The positive part of an array of rows. -/
def reluRows (h : FVec Ideal S100000x128 .f32) : FVec Ideal S100000x128 .f32 :=
  maximumf h (broadcastInDim S100000x128 ![] bcast_S_S100000x128 (constant S_ .f32 0x00000000#32))

/-- The first product. -/
def firstRows (e : FVec Ideal S100000x33 .f32) (w : FVec Ideal S33x128 .f32) : FVec Ideal S100000x128 .f32 :=
  Host.dotGeneral dot_S100000x33_S33x128_S100000x128_1_0_0_1_n_n none e w

/-- A hidden product. -/
def denseRows (h : FVec Ideal S100000x128 .f32) (w : FVec Ideal S128x128 .f32) : FVec Ideal S100000x128 .f32 :=
  Host.dotGeneral dot_S100000x128_S128x128_S100000x128_1_0_0_1_n_n none h w

/-- The last product. -/
def lastRows (h : FVec Ideal S100000x128 .f32) (w : FVec Ideal S128x4 .f32) : FVec Ideal S100000x4 .f32 :=
  Host.dotGeneral dot_S100000x128_S128x4_S100000x4_1_0_0_1_n_n none h w

/-! Each, row by row. -/
theorem reluRows_row (h : FVec Ideal S100000x128 .f32) (p : Fin 100000) : row (reluRows h) p = relu (row h p) := by
  funext i
  unfold row
  pointwise [reluRows, relu]
theorem firstRows_row (e : FVec Ideal S100000x33 .f32) (w : FVec Ideal S33x128 .f32) (p : Fin 100000) :
    row (firstRows e w) p = dense w (row e p) := by
  funext i
  unfold row
  pointwise [firstRows, dense]
  exact Finset.sum_congr rfl fun a _ => mul_comm _ _
theorem denseRows_row (h : FVec Ideal S100000x128 .f32) (w : FVec Ideal S128x128 .f32) (p : Fin 100000) :
    row (denseRows h w) p = dense w (row h p) := by
  funext i
  unfold row
  pointwise [denseRows, dense]
  exact Finset.sum_congr rfl fun a _ => mul_comm _ _
theorem lastRows_row (h : FVec Ideal S100000x128 .f32) (w : FVec Ideal S128x4 .f32) (p : Fin 100000) :
    row (lastRows h w) p = dense w (row h p) := by
  funext i
  unfold row
  pointwise [lastRows, dense]
  exact Finset.sum_congr rfl fun a _ => mul_comm _ _

/-- All nine, with the positive part between them. -/
def decodeRows (e : FVec Ideal S100000x33 .f32) (w0 : FVec Ideal S33x128 .f32) (w1 w2 w3 w4 w5 w6 w7 : FVec Ideal S128x128 .f32)
    (w8 : FVec Ideal S128x4 .f32) : FVec Ideal S100000x4 .f32 :=
  lastRows (reluRows (denseRows (reluRows (denseRows (reluRows (denseRows (reluRows (denseRows (reluRows (denseRows (reluRows
    (denseRows (reluRows (denseRows (reluRows (firstRows e w0)) w1)) w2)) w3)) w4)) w5)) w6)) w7)) w8

/-- Row by row. -/
theorem decodeRows_row (e : FVec Ideal S100000x33 .f32) (w0 : FVec Ideal S33x128 .f32) (w1 w2 w3 w4 w5 w6 w7 : FVec Ideal S128x128 .f32)
    (w8 : FVec Ideal S128x4 .f32) (p : Fin 100000) :
    row (decodeRows e w0 w1 w2 w3 w4 w5 w6 w7 w8) p = decode w0 w1 w2 w3 w4 w5 w6 w7 w8 (row e p) := by
  unfold decodeRows decode
  rw [lastRows_row]
  simp only [reluRows_row, denseRows_row, firstRows_row]

/-! ## The result -/

/-- The first column of the decoder's output beside the moved vertices. -/
def assembleRows (x : FVec Ideal S100000x3 .f32) (o : FVec Ideal S100000x4 .f32) : FVec Ideal S100000x4 .f32 :=
  concatenate S100000x4 1
    [⟨S100000x1, broadcastInDim S100000x1 ![0] bcast_S100000_S100000x1_0
        (shapeCast S100000 (extractStridedSlice S100000x1 ![0, 0] o slices_S100000x4_S100000x1_0_0) shapeCasts_S100000x1_S100000)⟩,
      ⟨S100000x3, addf x (mulf (broadcastInDim S100000x3 ![] bcast_S_S100000x3 (constant S_ .f32 0x38D1B717#32))
        (Host.tanh (extractStridedSlice S100000x3 ![0, 1] o slices_S100000x4_S100000x3_0_1)))⟩]
    concatenates_S100000x1_S100000x3_S100000x4_d1

/-- Row by row. -/
theorem assembleRows_row (x : FVec Ideal S100000x3 .f32) (o : FVec Ideal S100000x4 .f32) (p : Fin 100000) :
    row (assembleRows x o) p = assemble (row x p) (row o p) := by
  funext r
  unfold row
  pointwise [assembleRows]
  fin_cases r <;> simp [assemble, scale]

variable (m : (ℓ : Loc nD τ sig) → Buf (Elt Ideal) ℓ)

/-- The reference's result is the composition of these. -/
theorem result_eq (c : Dev nD) :
    Cert.ReferenceIdeal.Value.res_main_v69 m c
      = assembleRows (m ((c.tc : Thread nD τ).loc main_arg0))
          (decodeRows (embedRows (m ((c.tc : Thread nD τ).loc main_arg0))) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))) := by
  unfold Cert.ReferenceIdeal.Value.res_main_v69 assembleRows decodeRows lastRows reluRows denseRows firstRows embedRows blocks scaled powers
    exponents fractions
  rfl

/-- Row `p` of the reference's result: the decoder on vertex `p`. -/
theorem result_row (c : Dev nD) (p : Fin 100000) :
    row (n := 100000) (p := 4) (Cert.ReferenceIdeal.Value.res_main_v69 m c) p
      = assemble (row (m ((c.tc : Thread nD τ).loc main_arg0)) p)
          (decode (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (embedBy (byFreq freq) (row (m ((c.tc : Thread nD τ).loc main_arg0)) p))) := by
  rw [result_eq, assembleRows_row, decodeRows_row, embedRows_row]

end Cert.ReferenceIdeal.Hand

end
-- ==== Proof.Finite.lean ====
/- What the precondition says over the extended reals: every coordinate of every vertex is a real number. -/
module

public import proofs.«01_k».proof.Proof.Gen.Pre_finite_vertices
public import Idealize.ShloMosaic.Lib.Pointwise

@[expose] public section

noncomputable section

namespace Cert.Pre_finite_vertices.Hand

open Cert.Pre_finite_vertices Cert.Pre_finite_vertices.Gen
open Idealize.ShloMosaic

/-- Where the test of a coordinate against infinity came out true, the coordinate is real. -/
theorem coordinate_real (x0 : FVec Ideal S100000x3 .f32) (x1 : IVec S600000x4 32) (x2 : FVec Ideal S33x128 .f32)
    (x3 x4 x5 x6 x7 x8 x9 : FVec Ideal S128x128 .f32) (x10 : FVec Ideal S128x4 .f32)
    (h : fn (F := Ideal) x0 x1 x2 x3 x4 x5 x6 x7 x8 x9 x10 = fun _ => 1#1) (p : Fin 100000) (k : Fin 3) :
    ∃ x : ℝ, x0 (ix2 p k) = (x : EReal) := by
  have e := congrFun h (ix2 p k)
  revert e
  pointwise [fn]
  intro e
  have hlt : max (x0 (ix2 p k)) (-(x0 (ix2 p k))) < (⊤ : EReal) := by
    rw [← show Ideal.ofBits .f32 0x7F800000#32 = (⊤ : EReal) by simp [Ideal.ofBits, Ideal.ieee]]
    by_contra hn
    rw [show decide (FloatOps.absf (x0 (ix2 p k)) < Ideal.ofBits .f32 0x7F800000#32) = false from decide_eq_false hn] at e
    exact absurd e (by decide)
  obtain ⟨h1, h2⟩ := max_lt_iff.mp hlt
  exact ⟨(x0 (ix2 p k)).toReal, (EReal.coe_toReal h1.ne fun hb => by rw [hb] at h2; exact absurd h2 (by simp)).symm⟩

end Cert.Pre_finite_vertices.Hand

end
-- ==== Proof.Equation.lean ====
/- The equation: at vertices of real coordinates the two programs, run from equal arguments, return equal arrays. -/
module

public import proofs.«01_k».proof.Proof.IdealFrame
public import proofs.«01_k».proof.Proof.RefValue
public import proofs.«01_k».proof.Proof.Finite
public import proofs.«01_k».proof.Defs

@[expose] public section

noncomputable section

namespace Cert.Hand

open Cert.Mlp
open Idealize.ShloMosaic Idealize.SL.Sem

/-- On vertices of real coordinates, the decoder fed by doublings is the decoder fed by frequencies. -/
theorem rows_eq (x : (⟨2, ![100000, 3]⟩ : Shape).Idx → EReal) (hx : ∀ p k, ∃ y : ℝ, x (ix2 p k) = (y : EReal)) (w0 : Mat 33 128)
    (w1 w2 w3 w4 w5 w6 w7 : Mat 128 128) (w8 : Mat 128 4) (p : Fin 100000) :
    Cert.KernelIdeal.Hand.rowOf x w0 w1 w2 w3 w4 w5 w6 w7 w8 p
      = assemble (Cert.ReferenceIdeal.Hand.row x p)
          (decode w0 w1 w2 w3 w4 w5 w6 w7 w8 (embedBy (byFreq Cert.ReferenceIdeal.Hand.freq) (Cert.ReferenceIdeal.Hand.row x p))) := by
  unfold Cert.KernelIdeal.Hand.rowOf
  rw [embedBy_eq Cert.ReferenceIdeal.Hand.freq Cert.ReferenceIdeal.Hand.freq_eq (fun k => x (ix2 p k)) (hx p)]
  rfl

/-- So the reference's result, on the kernel's arguments, is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hx : ∀ p k, ∃ y : ℝ, (m ((c.tc : Thread Cert.KernelIdeal.nD Cert.KernelIdeal.τ).loc Cert.KernelIdeal.main_arg0)
      : Cert.KernelIdeal.S100000x3.Idx → EReal) (ix2 p k) = (y : EReal))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)) :
    Cert.ReferenceIdeal.Value.res_main_v69 m' c
      = fun i : Cert.KernelIdeal.S100000x4.Idx => Cert.KernelIdeal.Hand.rowAt m c (i 0) (i 1) := by
  funext i
  obtain ⟨p, r, rfl⟩ : ∃ p r, i = ix2 p r := ⟨i 0, i 1, by funext a; match a with | ⟨0, _⟩ => rfl | ⟨1, _⟩ => rfl⟩
  refine (congrFun (Cert.ReferenceIdeal.Hand.result_row m' c p) r).trans ?_
  rw [h0, h2, h3, h4, h5, h6, h7, h8, h9, h10]
  exact (congrFun (rows_eq _ hx _ _ _ _ _ _ _ _ _ p) r).symm

/-- `Cert.algebraic_KernelIdeal_ReferenceIdeal_pre_finite_vertices`: both programs run to the end and return the kernel's
    array, their arguments unchanged. -/
theorem algebraic : Cert.algebraic_KernelIdeal_ReferenceIdeal_pre_finite_vertices := by
  intro m g m' g' hpre hargs
  refine ⟨fun c i => Cert.KernelIdeal.Hand.rowAt m c (i 0) (i 1), ?_, ?_⟩
  · exact (θ_run Cert.KernelIdeal.defs _ _).mono (fun r h => h.1) (Cert.KernelIdeal.Hand.run_value m g)
  · refine (θ_run Cert.ReferenceIdeal.defs _ _).mono (fun r h c => ⟨(h c).1.trans ?_, (h c).2⟩)
      (Cert.ReferenceIdeal.Value.run (F := Ideal) m' g')
    obtain ⟨h0, _, h2, h3, h4, h5, h6, h7, h8, h9, h10⟩ := hargs c
    exact results_eq m m' c (fun p k => Cert.Pre_finite_vertices.Hand.coordinate_real _ _ _ _ _ _ _ _ _ _ _ (hpre c) p k)
      h0 h2 h3 h4 h5 h6 h7 h8 h9 h10

end Cert.Hand

end
-- ==== Proof.lean ====
module

public import proofs.«01_k».proof.Defs
public import proofs.«01_k».proof.Proof.KernelFrame
public import proofs.«01_k».proof.Proof.IdealFrame
public import proofs.«01_k».proof.Proof.RefFrame
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_finite_vertices.Gen.facts,
    Cert.Kernel.Hand.frame, Cert.KernelIdeal.Hand.frame, Cert.KernelIdeal.Hand.frame_pre, Cert.ReferenceIdeal.Hand.frame,
    Cert.ReferenceIdeal.Hand.frame_pre, trivial, Cert.Hand.algebraic⟩

end Cert.Proof

end
